-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S200x4096 : Shape := ⟨2, ![200, 4096]⟩
abbrev S26x200x4096 : Shape := ⟨3, ![26, 200, 4096]⟩
abbrev S40x4096 : Shape := ⟨2, ![40, 4096]⟩
abbrev S1x40x4096 : Shape := ⟨3, ![1, 40, 4096]⟩
abbrev S4096x200x26 : Shape := ⟨3, ![4096, 200, 26]⟩

abbrev nBuf : Space → Nat
  | .hbm => 4
  | .vmem => 4
  | .smem => 0
  | _ => 0

abbrev bufTy : (tb : Table) → Fin (tcTables nBuf tb) → BufTy
  | .hbm, ⟨0, _⟩ => ⟨S4096x200, .i32⟩
  | .hbm, ⟨1, _⟩ => ⟨S200x4096, .i32⟩
  | .hbm, ⟨2, _⟩ => ⟨S26x200x4096, .i32⟩
  | .hbm, ⟨3, _⟩ => ⟨S4096x200x26, .i32⟩
  | .local _ .vmem, ⟨0, _⟩ => ⟨S40x4096, .i32⟩
  | .local _ .vmem, ⟨1, _⟩ => ⟨S40x4096, .i32⟩
  | .local _ .vmem, ⟨2, _⟩ => ⟨S1x40x4096, .i32⟩
  | .local _ .vmem, ⟨3, _⟩ => ⟨S1x40x4096, .i32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![5, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S40x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x40x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4096x200 : Shape := ⟨2, ![4096, 200]⟩
abbrev S4096x200x1 : Shape := ⟨3, ![4096, 200, 1]⟩
abbrev S26 : Shape := ⟨1, ![26]⟩
abbrev S1x1x26 : Shape := ⟨3, ![1, 1, 26]⟩
abbrev S4096x200x26 : Shape := ⟨3, ![4096, 200, 26]⟩

abbrev nBuf : Space → Nat
  | .hbm => 8
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200x1, .i32⟩
  | .hbm, ⟨2, _⟩ => ⟨S26, .i32⟩
  | .hbm, ⟨3, _⟩ => ⟨S1x1x26, .i32⟩
  | .hbm, ⟨4, _⟩ => ⟨S4096x200x26, .i32⟩
  | .hbm, ⟨5, _⟩ => ⟨S4096x200x26, .i32⟩
  | .hbm, ⟨6, _⟩ => ⟨S4096x200x26, .i1⟩
  | .hbm, ⟨7, _⟩ => ⟨S4096x200x26, .i32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.Spec.lean ====
/- The one-hot table: the function that kernel and reference are both shown to compute. -/
module

public import Idealize.ShloMosaic.Lib.Pipeline.Value
public import Idealize.ShloMosaic.Lib.Pointwise

@[expose] public section

noncomputable section

namespace Cert.OneHot

open Idealize.ShloMosaic

/-- The word 1 if the index word `w` names class `k`, else the word 0. -/
def mark (w : BitVec 32) (k : Nat) : BitVec 32 := if w = BitVec.ofNat 32 k then 1#32 else 0#32

/-- An equality comparison's bit, widened to a word, is `mark`. -/
theorem setWidth_cmpi (w : BitVec 32) (k : Nat) :
    (IntOp.cmpi .eq w (BitVec.ofNat 32 k)).setWidth 32 = mark w k := by
  unfold IntOp.cmpi mark
  by_cases h : w = BitVec.ofNat 32 k
  · rw [if_pos h, beq_iff_eq.mpr h]; rfl
  · rw [if_neg h, beq_eq_false_iff_ne.mpr h]; rfl

/-- The one-hot table of the indices `x`: entry `(b, l, k)` says whether index `(b, l)` is `k`. -/
def table (x : (⟨2, ![4096, 200]⟩ : Shape).Idx → BitVec 32) : (⟨3, ![4096, 200, 26]⟩ : Shape).Idx → BitVec 32 :=
  fun j => mark (x (ix2 (j 0) (j 1))) (j 2).val

/-- The same table with its axes in the opposite order, one plane per class: entry `(k, l, b)`. -/
def planes (x : (⟨2, ![4096, 200]⟩ : Shape).Idx → BitVec 32) : (⟨3, ![26, 200, 4096]⟩ : Shape).Idx → BitVec 32 :=
  fun j => mark (x (ix2 (j 2) (j 1))) (j 0).val

end Cert.OneHot

end
-- ==== Proof.KernelValue.lean ====
/- What the kernel's program leaves in its result: the one-hot table of its argument. The body writes, at grid point
   `(c, k)`, rows `40 c` to `40 c + 39` of plane `k`; the 130 blocks tile the planes; the host's two transposes put the
   argument in front of the region and the planes behind it. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

noncomputable section

namespace Cert.KernelIdeal.OneHot

open Cert.KernelIdeal Cert.KernelIdeal.Gen Cert.OneHot
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Device `c`'s table of indices at the launch. -/
abbrev arg (c : Dev nD) : S4096x200.Idx → BitVec 32 := m ((c : Thread nD τ).loc main_arg0)

/-- The region finds, as its operand, the argument transposed. -/
theorem V_main_v0 (c : Dev nD) :
    V m c main_v0 = transpose S200x4096 [1, 0] (arg m c) transposes_S4096x200_S200x4096_1_0 := by
  unfold V V0
  simp only [List.flatten_cons, List.flatten_nil, List.append_nil]
  after_results

/-- The body's payload at an index: row `y 1`, column `y 2` of the loaded block, compared with the class of the point. -/
theorem payload_apply (i : grid0.Coords) (v : Vec F S40x4096 .i32) (y : S1x40x4096.Idx) :
    k0_pay1 i v y = mark (v (ix2 (y 1) (y 2))) (i 1).val := by
  rw [← setWidth_cmpi]
  unfold k0_pay1
  pointwise

/-- The operand's block at point `t`: block row `c`, block column 0. -/
theorem index_in : ∀ t : Fin cfg0.N, win0_0.index t = ![(grid0.coords t 0).val, 0] :=
  (by decide +kernel : ∀ t : Fin grid0.N, _)

/-- The result's block at point `t`: plane `k`, block row `c`, block column 0. -/
theorem index_out : ∀ t : Fin cfg0.N, win0_1.index t = ![(grid0.coords t 1).val, (grid0.coords t 0).val, 0] :=
  (by decide +kernel : ∀ t : Fin grid0.N, _)

/-- After the region the result array holds the planes of the argument. -/
theorem final_planes (c : Dev nD) : (dats m 0 c).arrAt 1 cfg0.N = planes (arg m c) := by
  refine (dats m 0 c).arrAt_eq_of_covers 1 _ (by decide +kernel) fun t _ y => ?_
  blk_simp
  rw [after0_1]
  frame_out
  rw [payload_apply]
  blk_simp [iblk]
  rw [V_main_v0]
  unfold planes
  have hk : (((win0_1.blk t).view.emb y 0 : Fin _) : Nat) = (grid0.coords t 1).val := by
    blk_simp [index_out]
  have hs : transpose S200x4096 [1, 0] (arg m c) transposes_S4096x200_S200x4096_1_0
        ((win0_0.blk t).view.emb (ix2 (y 1) (y 2)))
      = arg m c (ix2 ((win0_1.blk t).view.emb y 2) ((win0_1.blk t).view.emb y 1)) := by
    refine transpose_apply _ _ _ _ _ fun a => ?_
    fin_cases a
    · show (((win0_1.blk t).view.emb y 1 : Fin _) : Nat) = ((win0_0.blk t).view.emb (ix2 (y 1) (y 2)) 0 : Fin _)
      blk_simp [index_in, index_out]
    · show (((win0_1.blk t).view.emb y 2 : Fin _) : Nat) = ((win0_0.blk t).view.emb (ix2 (y 1) (y 2)) 1 : Fin _)
      blk_simp [index_in, index_out]
  exact congrArg₂ mark hs hk.symm

/-- The host transposes the planes into the table. -/
theorem transpose_planes (x : S4096x200.Idx → BitVec 32) :
    transpose S4096x200x26 [2, 1, 0] (planes x) transposes_S26x200x4096_S4096x200x26_2_1_0 = table x := by
  funext j
  unfold table planes
  pointwise

/-- After the program the result buffer holds the one-hot table of the argument. -/
theorem tail_main_v2 (c : Dev nD) :
    Pipeline.afterTail₀ cfgs (dats m) 0 (V0 m) [hostOps1] c main_v2 = table (arg m c) := by
  rw [← transpose_planes, ← final_planes m c]
  unfold Pipeline.afterTail₀
  simp only [List.flatten_cons, List.flatten_nil, List.append_nil]
  after_results
  exact congrArg (transpose S4096x200x26 [2, 1, 0] · transposes_S26x200x4096_S4096x200x26_2_1_0)
    (Pipeline.withArrays_arr spec0 launch0.win.arr_inj c _ _ 1)

/-- The run: every execution of the kernel's program ends with the one-hot table of its argument in the result buffer
    and the argument as launched. -/
theorem run : θ_run defs (onTc (τ := τ) (main (F := F))) ⟨m, fun _ => 0, ρ⟩ fun r => ∀ c : Dev nD,
      r.2.mem ((c : Thread nD τ).loc main_v2) = table (arg m c)
      ∧ r.2.mem ((c : Thread nD τ).loc main_arg0) = m ((c : Thread nD τ).loc main_arg0) :=
  (θ_run defs _ _).mono (fun _ h c =>
      ⟨(h.rest_eq c main_v2 (Pipeline.mem_restRefs_of main_v2 (by decide) (by decide))).trans (tail_main_v2 m c),
        (h.rest_eq c main_arg0 (Pipeline.mem_restRefs_of main_arg0 (by decide) (by decide))).trans
          (W_main_arg0 m (dats m) c)⟩)
    (run_main m ρ)

end Cert.KernelIdeal.OneHot

end
-- ==== Proof.ReferenceValue.lean ====
/- What the reference leaves in its result: the one-hot table of its argument. -/
module

public import proofs.«01_k».proof.Proof.Spec
public import proofs.«01_k».proof.Proof.Gen.ReferenceIdeal.Run
public import Idealize.ShloMosaic.Lib.Quiescent

@[expose] public section

noncomputable section

namespace Cert.ReferenceIdeal.OneHot

open Cert.ReferenceIdeal Cert.ReferenceIdeal.Gen Cert.OneHot
open Idealize.ShloMosaic Idealize.ShloMosaic.TcCoe Idealize.SL.Sem

variable {F : FTy → Type} [FloatOps F]
variable (m : (ℓ : Loc nD τ sig) → Buf (Elt F) ℓ) (ρ : Dev nD → PrngReg)

/-- Each index repeated along a class axis, compared with 0, ..., 25 along that axis, the bits widened to words: the
    one-hot table. -/
theorem term_eq (x : S4096x200.Idx → BitVec 32) :
    extui 32 (cmpi .eq
      (broadcastInDim S4096x200x26 ![0, 1, 2] bcast_S4096x200x1_S4096x200x26_0_1_2
        (broadcastInDim S4096x200x1 ![0, 1] bcast_S4096x200_S4096x200x1_0_1 x))
      (broadcastInDim S4096x200x26 ![0, 1, 2] bcast_S1x1x26_S4096x200x26_0_1_2
        (broadcastInDim S1x1x26 ![2] bcast_S26_S1x1x26_2 (iotaInDim S26 32 0)))) natLt_1_32 = table x := by
  funext j
  unfold table
  rw [← setWidth_cmpi]
  pointwise

/-- The run: every execution of the reference ends with the one-hot table of its argument in the result buffer and the
    argument as launched. -/
theorem run : θ_run defs (onTc (τ := τ) (main (F := F))) ⟨m, fun _ => 0, ρ⟩ fun r => ∀ c : Dev nD,
      r.2.mem ((c : Thread nD τ).loc main_v6) = table (m ((c : Thread nD τ).loc main_arg0))
      ∧ r.2.mem ((c : Thread nD τ).loc main_arg0) = m ((c : Thread nD τ).loc main_arg0) :=
  (θ_run defs _ _).mono (fun _ h c => ⟨(h c).1.trans (term_eq _), (h c).2⟩) (Value.run m ρ)

/-- The frame: the argument ends as launched, and there is no semaphore whose counter could be other than zero. -/
theorem frame : θ_run defs (onTc (τ := τ) (main (F := F))) ⟨m, fun _ => 0, ρ⟩ fun r =>
      (∀ c : Dev nD, r.2.mem ((c : Thread nD τ).loc main_arg0) = m ((c : Thread nD τ).loc main_arg0))
      ∧ r.2.sem = fun _ => 0 :=
  (θ_run defs _ _).mono (fun r h => ⟨fun c => (h c).2, sem_eq_zero_of_no_sems rfl r.2⟩) (run m ρ)

end Cert.ReferenceIdeal.OneHot

end
-- ==== Proof.lean ====
/- The certificate: the frames of the three programs, and that kernel and reference leave the same one-hot table. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals (here every value is an integer word) kernel and reference end with the same result: the
    one-hot table of the argument, which the two memories share. -/
theorem algebraic : Cert.algebraic_KernelIdeal_ReferenceIdeal := fun m g m' g' _ hm =>
  ⟨fun c => Cert.OneHot.table (Cert.KernelIdeal.OneHot.arg m c), Cert.KernelIdeal.OneHot.run m g,
    (θ_run Cert.ReferenceIdeal.defs _ _).mono
      (fun _ h c => ⟨(h c).1.trans (congrArg Cert.OneHot.table (hm c)), (h c).2⟩)
      (Cert.ReferenceIdeal.OneHot.run m' g')⟩

/-- All five claims. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.OneHot.frame m ρ,
    trivial, algebraic⟩

end Cert.Proof

end
